-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x5120 : Shape := ⟨3, ![256, 1, 5120]⟩
abbrev S5120x35840 : Shape := ⟨2, ![5120, 35840]⟩
abbrev S160x35840 : Shape := ⟨2, ![160, 35840]⟩
abbrev S256x5120 : Shape := ⟨2, ![256, 5120]⟩
abbrev S256x35840 : Shape := ⟨2, ![256, 35840]⟩
abbrev S5120x512 : Shape := ⟨2, ![5120, 512]⟩
abbrev S160x512 : Shape := ⟨2, ![160, 512]⟩
abbrev S256x512 : Shape := ⟨2, ![256, 512]⟩
abbrev S32x512 : Shape := ⟨2, ![32, 512]⟩
abbrev S1x512 : Shape := ⟨2, ![1, 512]⟩
abbrev S256x256 : Shape := ⟨2, ![256, 256]⟩
abbrev S256x1x35840 : Shape := ⟨3, ![256, 1, 35840]⟩

abbrev nBuf : Space → Nat
  | .hbm => 6
  | .vmem => 7
  | .smem => 0
  | _ => 0

abbrev bufTy : (tb : Table) → Fin (tcTables nBuf tb) → BufTy
  | .hbm, ⟨0, _⟩ => ⟨S256x1x5120, .bf16⟩
  | .hbm, ⟨1, _⟩ => ⟨S5120x35840, .i8⟩
  | .hbm, ⟨2, _⟩ => ⟨S160x35840, .f16⟩
  | .hbm, ⟨3, _⟩ => ⟨S256x5120, .bf16⟩
  | .hbm, ⟨4, _⟩ => ⟨S256x35840, .bf16⟩
  | .hbm, ⟨5, _⟩ => ⟨S256x1x35840, .bf16⟩
  | .local _ .vmem, ⟨0, _⟩ => ⟨S256x5120, .bf16⟩
  | .local _ .vmem, ⟨1, _⟩ => ⟨S5120x512, .i8⟩
  | .local _ .vmem, ⟨2, _⟩ => ⟨S5120x512, .i8⟩
  | .local _ .vmem, ⟨3, _⟩ => ⟨S160x512, .f16⟩
  | .local _ .vmem, ⟨4, _⟩ => ⟨S160x512, .f16⟩
  | .local _ .vmem, ⟨5, _⟩ => ⟨S256x512, .bf16⟩
  | .local _ .vmem, ⟨6, _⟩ => ⟨S256x512, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x5120 : Shape := ⟨3, ![256, 1, 5120]⟩
abbrev S5120x35840 : Shape := ⟨2, ![5120, 35840]⟩
abbrev S160x35840 : Shape := ⟨2, ![160, 35840]⟩
abbrev S256x1x35840 : Shape := ⟨3, ![256, 1, 35840]⟩
abbrev S160x32x35840 : Shape := ⟨3, ![160, 32, 35840]⟩
abbrev S160x1x35840 : Shape := ⟨3, ![160, 1, 35840]⟩

abbrev nBuf : Space → Nat
  | .hbm => 4
  | .vmem => 4
  | .smem => 0
  | _ => 0

abbrev bufTy : (tb : Table) → Fin (tcTables nBuf tb) → BufTy
  | .hbm, ⟨0, _⟩ => ⟨S256x1x5120, .bf16⟩
  | .hbm, ⟨1, _⟩ => ⟨S5120x35840, .i8⟩
  | .hbm, ⟨2, _⟩ => ⟨S160x35840, .f16⟩
  | .hbm, ⟨3, _⟩ => ⟨S256x1x35840, .bf16⟩
  | .local _ .vmem, ⟨0, _⟩ => ⟨S256x1x5120, .bf16⟩
  | .local _ .vmem, ⟨1, _⟩ => ⟨S5120x35840, .i8⟩
  | .local _ .vmem, ⟨2, _⟩ => ⟨S160x35840, .f16⟩
  | .local _ .vmem, ⟨3, _⟩ => ⟨S256x1x35840, .bf16⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x35840 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x35840 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1x35840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- What the kernel's body leaves in its output block, as one recursion: an accumulator starts at zero and twenty chunks
   are added to it, each the product of 256 columns of `x` with 256 rows of the dequantized weight. The generated frame
   states the same value as one long nested term; `out_eq` says the two are equal. -/
module

public import proofs.«01_k».proof.Proof.Gen.KernelIdeal.Frame
public import Idealize.ShloMosaic.Lib.Pipeline.Value

@[expose] public section

noncomputable section

namespace Cert.KernelIdeal.Body

open Idealize.ShloMosaic Cert.KernelIdeal Cert.KernelIdeal.Gen

variable {F : FTy → Type} [FloatOps F]

/-- Block `b` of the 160 blocks of 32 weight rows lies inside the weight's columns. -/
theorem inb_codes {b : ℕ} (h : b < 160) : ∀ a, (![32 * b, 0] : Fin 2 → ℕ) a + S32x512.size a ≤ S5120x512.size a := fun a =>
  match a with
  | ⟨0, _⟩ => show 32 * b + 32 ≤ 5120 by omega
  | ⟨1, _⟩ => show 0 + 512 ≤ 512 by omega

/-- Row `b` of the scales is one of its 160 rows. -/
theorem inb_scale {b : ℕ} (h : b < 160) : ∀ a, (![b, 0] : Fin 2 → ℕ) a + S1x512.size a ≤ S160x512.size a := fun a =>
  match a with
  | ⟨0, _⟩ => show b + 1 ≤ 160 by omega
  | ⟨1, _⟩ => show 0 + 512 ≤ 512 by omega

/-- Chunk `n` of the 20 chunks of 256 columns of `x` lies inside it. -/
theorem inb_x {n : ℕ} (h : n < 20) : ∀ a, (![0, 256 * n] : Fin 2 → ℕ) a + S256x256.size a ≤ S256x5120.size a := fun a =>
  match a with
  | ⟨0, _⟩ => show 0 + 256 ≤ 256 by omega
  | ⟨1, _⟩ => show 256 * n + 256 ≤ 5120 by omega

/-- Block `b` of the weight, dequantized: 32 rows of codes, each times the block's row of scales. -/
def block (x1 : Vec F S5120x512 .i8) (x2 : Vec F S160x512 .f16) (b : ℕ) (h : b < 160) : FVec F S32x512 .bf16 :=
  truncf .bf16 (mulf (extf .f32 (sitofp .bf16 (View.ld x1 (Rect.unit (s := S5120x512) ![32 * b, 0] S32x512.size (inb_codes h)) : Vec F S32x512 .i8)) bitsLt_bf16_f32)
    (broadcastTo S32x512 (extf .f32 (View.ld x2 (Rect.unit (s := S160x512) ![b, 0] S1x512.size (inb_scale h)) : FVec F S1x512 .f16) bitsLt_f16_f32) broadcasts_S1x512_S32x512)) bitsLt_bf16_f32

/-- Chunk `n` of the weight: its eight blocks, one below the other. -/
def weight (x1 : Vec F S5120x512 .i8) (x2 : Vec F S160x512 .f16) (n : ℕ) (h : n < 20) : FVec F S256x512 .bf16 :=
  concatenate S256x512 0
    [⟨S32x512, block x1 x2 (8 * n) (by omega)⟩, ⟨S32x512, block x1 x2 (8 * n + 1) (by omega)⟩, ⟨S32x512, block x1 x2 (8 * n + 2) (by omega)⟩,
      ⟨S32x512, block x1 x2 (8 * n + 3) (by omega)⟩, ⟨S32x512, block x1 x2 (8 * n + 4) (by omega)⟩, ⟨S32x512, block x1 x2 (8 * n + 5) (by omega)⟩,
      ⟨S32x512, block x1 x2 (8 * n + 6) (by omega)⟩, ⟨S32x512, block x1 x2 (8 * n + 7) (by omega)⟩]
    concatenates_S32x512_S32x512_S32x512_S32x512_S32x512_S32x512_S32x512_S32x512_S256x512_d0

/-- What chunk `n` adds: its columns of `x` times its rows of the weight. -/
def product (x0 : Vec F S256x5120 .bf16) (x1 : Vec F S5120x512 .i8) (x2 : Vec F S160x512 .f16) (n : ℕ) (h : n < 20) : FVec F S256x512 .f32 :=
  matmul dot_S256x256_S256x512_S256x512_1_0_0_1_n_n none
    (shapeCast S256x256 (View.ld x0 (Rect.unit (s := S256x5120) ![0, 256 * n] S256x256.size (inb_x h)) : FVec F S256x256 .bf16) shapeCasts_S256x256_S256x256)
    (weight x1 x2 n h) (constant S256x512 .f32 0x00000000#32)

/-- The accumulator after the first `n` chunks. -/
def acc (x0 : Vec F S256x5120 .bf16) (x1 : Vec F S5120x512 .i8) (x2 : Vec F S160x512 .f16) : (n : ℕ) → n ≤ 20 → FVec F S256x512 .f32
  | 0, _ => broadcast S256x512 (Scalar.ofBits .f32 0x00000000#32)
  | n + 1, h => addf (acc x0 x1 x2 n (by omega)) (product x0 x1 x2 n (by omega))

theorem hz : (![0, 0] : Fin 2 → ℕ) = fun _ => 0 := funext fun a => by fin_cases a <;> rfl

/-- The body leaves the accumulator after all twenty chunks, rounded to the output's type. -/
theorem out_eq (x0 : Vec F S256x5120 .bf16) (x1 : Vec F S5120x512 .i8) (x2 : Vec F S160x512 .f16) :
    out0_3 x0 x1 x2 = truncf .bf16 (acc x0 x1 x2 20 (by omega)) bitsLt_bf16_f32 := by
  unfold out0_3
  rw [View.canon_unit_zero hz]
  rfl

end Cert.KernelIdeal.Body

end
-- ==== Proof.Linear.lean ====
/- The problem over the extended reals, plainly: an entry of the result is the sum over the 5120 weight rows of the
   entry of `x` times the row's code times the scale of the row's block of 32. -/
module

public import Idealize.ShloMosaic.PureOps.Ideal.Laws
public import Idealize.ShloMosaic.Lib.ValueIdx

@[expose] public section

noncomputable section

namespace Cert.Linear

open scoped BigOperators

/-- What weight row `r` adds to an entry: the row's entry of `x`, times its code, times its block's scale. (Zero past
    the last row, where nothing is summed.) -/
def term (x : Fin 5120 → EReal) (w : Fin 5120 → BitVec 8) (d : Fin 160 → EReal) (r : ℕ) : EReal :=
  if h : r < 5120 then x ⟨r, h⟩ * (((w ⟨r, h⟩).toInt : ℝ) * d ⟨r / 32, by omega⟩) else 0

theorem term_of_lt (x : Fin 5120 → EReal) (w : Fin 5120 → BitVec 8) (d : Fin 160 → EReal) (r : Fin 5120) :
    term x w d r.val = x r * (((w r).toInt : ℝ) * d ⟨r.val / 32, by omega⟩) := dif_pos r.isLt

/-- An entry of the result. -/
@[irreducible] def entry (x : Fin 5120 → EReal) (w : Fin 5120 → BitVec 8) (d : Fin 160 → EReal) : EReal :=
  ∑ r ∈ Finset.range 5120, term x w d r

theorem entry_sum (x : Fin 5120 → EReal) (w : Fin 5120 → BitVec 8) (d : Fin 160 → EReal) :
    entry x w d = ∑ r ∈ Finset.range (256 * 20), term x w d r := by
  unfold entry
  norm_num

theorem entry_eq (x : Fin 5120 → EReal) (w : Fin 5120 → BitVec 8) (d : Fin 160 → EReal) :
    entry x w d = ∑ r : Fin 5120, x r * (((w r).toInt : ℝ) * d ⟨r.val / 32, by omega⟩) := by
  unfold entry
  exact (Finset.sum_range _).trans (Finset.sum_congr rfl fun r _ => term_of_lt x w d r)

end Cert.Linear

end
-- ==== Proof.BlockValue.lean ====
/- The body's output block over the extended reals, at an index: the accumulator after `n` chunks is the sum of the
   first `256 * n` terms, by induction on the chunk, so the block holds the problem's entries. -/
module

public import proofs.«01_k».proof.Proof.Body
public import proofs.«01_k».proof.Proof.Linear
public import Idealize.ShloMosaic.Lib.MatmulPlain
public import Idealize.ShloMosaic.Lib.Pipeline.ValueKit.Tiles

@[expose] public section

noncomputable section

namespace Cert.KernelIdeal.Body

open Idealize.ShloMosaic Idealize.ShloMosaic.ValueIdx Cert.KernelIdeal Cert.KernelIdeal.Gen Cert.Linear
open scoped BigOperators

variable (x0 : Vec Ideal S256x5120 .bf16) (x1 : Vec Ideal S5120x512 .i8) (x2 : Vec Ideal S160x512 .f16)

/-- Row `p` of block `b` is the codes of row `32 * b + p` times the block's scales. -/
theorem block_apply (b : ℕ) (h : b < 160) (p : Fin 32) (j : Fin 512) :
    block x1 x2 b h (ix2 p j) = (((x1 (ix2 (⟨32 * b + p.val, by omega⟩ : Fin 5120) j)).toInt : ℝ) : EReal) * x2 (ix2 (⟨b, h⟩ : Fin 160) j) := by
  unfold block
  rw [truncf_apply, mulf_apply, extf_apply, sitofp_apply,
    View.ld_unit_apply_of x1 _ _ _ _ (ix2 (⟨32 * b + p.val, by omega⟩ : Fin 5120) j) (fun a => by
      match a with
      | ⟨0, _⟩ => rfl
      | ⟨1, _⟩ => exact (Nat.zero_add _).symm),
    broadcastTo_apply _ _ _ (ix2 (0 : Fin 1) j) (fun a => by
      match a with
      | ⟨0, _⟩ => rfl
      | ⟨1, _⟩ => rfl),
    extf_apply,
    View.ld_unit_apply_of x2 _ _ _ _ (ix2 (⟨b, h⟩ : Fin 160) j) (fun a => by
      match a with
      | ⟨0, _⟩ => rfl
      | ⟨1, _⟩ => exact (Nat.zero_add _).symm)]
  rfl

/-- The chunk's eight blocks, listed by a function of the block's number in the chunk. -/
theorem weight_eq (n : ℕ) (h : n < 20) (hc : Shape.Concatenates ((List.ofFn fun q : Fin 8 =>
      (⟨S32x512, block x1 x2 (8 * n + q.val) (by omega)⟩ : (s : Shape) × (s.Idx → Ideal .bf16))).map (·.1)) S256x512 0) :
    weight x1 x2 n h = concatenate S256x512 0 (List.ofFn fun q : Fin 8 => ⟨S32x512, block x1 x2 (8 * n + q.val) (by omega)⟩) hc := rfl

/-- Row `k` of chunk `n` is the codes of row `256 * n + k` times the scales of that row's block. -/
theorem weight_apply (n : ℕ) (h : n < 20) (k : Fin 256) (j : Fin 512) :
    weight x1 x2 n h (ix2 k j)
      = (((x1 (ix2 (⟨256 * n + k.val, by omega⟩ : Fin 5120) j)).toInt : ℝ) : EReal) * x2 (ix2 (⟨(256 * n + k.val) / 32, by omega⟩ : Fin 160) j) := by
  have hq : k.val / 32 < 8 := by omega
  refine (congrFun (weight_eq x1 x2 n h concatenates_S32x512_S32x512_S32x512_S32x512_S32x512_S32x512_S32x512_S32x512_S256x512_d0) _).trans ?_
  refine (concatenate_ofFn_apply (t := S256x512) (s₁ := S32x512) (0 : Fin 2) _ _ rfl 32 rfl (ix2 k j) (⟨k.val / 32, hq⟩ : Fin 8) rfl (ix2 (⟨k.val % 32, by omega⟩ : Fin 32) j) rfl
      (fun a ha => by
        match a, ha with
        | ⟨0, _⟩, ha => exact absurd rfl ha
        | ⟨1, _⟩, _ => rfl)).trans ?_
  rw [block_apply]
  congr 4
  · congr 2; apply Fin.ext; show 32 * (8 * n + k.val / 32) + k.val % 32 = 256 * n + k.val; omega
  · show 8 * n + k.val / 32 = (256 * n + k.val) / 32; omega

/-- Chunk `n` adds the terms of its 256 rows. -/
theorem product_apply (n : ℕ) (h : n < 20) (i : Fin 256) (j : Fin 512) :
    product x0 x1 x2 n h (ix2 i j)
      = ∑ k ∈ Finset.range 256, term (fun r => x0 (ix2 i r)) (fun r => x1 (ix2 r j)) (fun b => x2 (ix2 b j)) (256 * n + k) := by
  unfold product
  rw [show dot_S256x256_S256x512_S256x512_1_0_0_1_n_n = DotDims.plain 256 256 512 from rfl, Finset.sum_range]
  refine (Ideal.matmul_plain_apply none _ _ _ i j).trans ?_
  rw [constant_apply, Ideal.ofBits_zero_f32, zero_add]
  refine Finset.sum_congr rfl fun k _ => ?_
  rw [weight_apply]
  refine (congrArg (· * _) ((congrFun (shapeCast_self _ _) _).trans
    (View.ld_unit_apply_of x0 _ _ _ _ (ix2 i (⟨256 * n + k.val, by omega⟩ : Fin 5120)) (fun a => by
      match a with
      | ⟨0, _⟩ => exact (Nat.zero_add _).symm
      | ⟨1, _⟩ => rfl)))).trans ?_
  exact (term_of_lt (fun r => x0 (ix2 i r)) (fun r => x1 (ix2 r j)) (fun b => x2 (ix2 b j)) (⟨256 * n + k.val, by omega⟩ : Fin 5120)).symm

/-- After `n` chunks the accumulator holds the sum of the first `256 * n` terms. -/
theorem acc_apply (i : Fin 256) (j : Fin 512) : ∀ (n : ℕ) (h : n ≤ 20), acc x0 x1 x2 n h (ix2 i j)
      = ∑ r ∈ Finset.range (256 * n), term (fun r => x0 (ix2 i r)) (fun r => x1 (ix2 r j)) (fun b => x2 (ix2 b j)) r
  | 0, _ => Ideal.ofBits_zero_f32
  | n + 1, h => by
    rw [acc, addf_apply, acc_apply i j n, product_apply, Nat.mul_succ, Finset.sum_range_add]

/-- An entry of the block the body leaves is the problem's entry of the input blocks. -/
theorem out_apply (i : Fin 256) (j : Fin 512) :
    out0_3 x0 x1 x2 (ix2 i j) = entry (fun r => x0 (ix2 i r)) (fun r => x1 (ix2 r j)) (fun b => x2 (ix2 b j)) := by
  rw [out_eq, truncf_apply, acc_apply, entry_sum]

end Cert.KernelIdeal.Body

end
-- ==== Proof.KernelValue.lean ====
/- What the kernel's arrays hold over the extended reals. Each of the 70 grid points writes 512 columns of the result,
   the points cover it, so the array ends holding the problem's entries; the host's two reshapes, of `x` before the call
   and of the result after it, add and drop an axis of extent one. -/
module

public import proofs.«01_k».proof.Proof.BlockValue
public import Idealize.ShloMosaic.Lib.StableHlo.Run

@[expose] public section

noncomputable section

namespace Cert.KernelIdeal.Read

open Idealize.ShloMosaic Idealize.ShloMosaic.TcCoe Idealize.ShloMosaic.ValueIdx Idealize.SL.Sem
open Cert.KernelIdeal Cert.KernelIdeal.Gen Cert.KernelIdeal.Body Cert.Linear
open Idealize.ShloMosaic.Pipeline (Dat)

variable (m : (ℓ : Loc nD τ sig) → Buf (Elt Ideal) ℓ) (ρ : Dev nD → PrngReg)

/-- The array the call fills, from the call's three operands. -/
def result (x : Vec Ideal S256x5120 .bf16) (w : Vec Ideal S5120x35840 .i8) (d : Vec Ideal S160x35840 .f16) : Vec Ideal S256x35840 .bf16 :=
  fun i => entry (fun r => x (ix2 (i 0) r)) (fun r => w (ix2 r (i 1))) (fun b => d (ix2 b (i 1)))

/-- Point `t` reads the whole of `x`, and takes block `t` of the columns of the three other arrays. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)

/-- Column `j` of point `t`'s blocks is column `512 * t + j` of the arrays. -/
def col (t : Fin cfg0.N) (j : Fin 512) : Fin 35840 := ⟨512 * t.val + j.val, by have : t.val < 70 := t.isLt.trans_eq N_0; omega⟩

theorem block0 (c : Dev nD) (t : Fin cfg0.N) (i : Fin 256) (r : Fin 5120) :
    iblk m c 0 t (ix2 i r) = V m c main_v0 (ix2 i r) := by
  show V m c main_v0 (((cfg0.win 0).blk t).view.emb (ix2 i r)) = _
  obtain ⟨e0, e1⟩ := idx0 t
  congr 1; funext a; apply Fin.ext
  match a with
  | ⟨0, _⟩ => show win0_0.index t (0 : Fin 2) * 256 + 1 * i.val = i.val; omega
  | ⟨1, _⟩ => show win0_0.index t (1 : Fin 2) * 5120 + 1 * r.val = r.val; omega

theorem block1 (c : Dev nD) (t : Fin cfg0.N) (r : Fin 5120) (j : Fin 512) :
    iblk m c 1 t (ix2 r j) = V m c main_arg1 (ix2 r (col t j)) := by
  show V m c main_arg1 (((cfg0.win 1).blk t).view.emb (ix2 r j)) = _
  obtain ⟨e0, e1⟩ := idx1 t
  congr 1; funext a; apply Fin.ext
  match a with
  | ⟨0, _⟩ => show win0_1.index t (0 : Fin 2) * 5120 + 1 * r.val = r.val; omega
  | ⟨1, _⟩ => show win0_1.index t (1 : Fin 2) * 512 + 1 * j.val = 512 * t.val + j.val; omega

theorem block2 (c : Dev nD) (t : Fin cfg0.N) (b : Fin 160) (j : Fin 512) :
    iblk m c 2 t (ix2 b j) = V m c main_arg2 (ix2 b (col t j)) := by
  show V m c main_arg2 (((cfg0.win 2).blk t).view.emb (ix2 b j)) = _
  obtain ⟨e0, e1⟩ := idx2 t
  congr 1; funext a; apply Fin.ext
  match a with
  | ⟨0, _⟩ => show win0_2.index t (0 : Fin 2) * 160 + 1 * b.val = b.val; omega
  | ⟨1, _⟩ => show win0_2.index t (1 : Fin 2) * 512 + 1 * j.val = 512 * t.val + j.val; omega

theorem emb3 (t : Fin cfg0.N) (i : Fin 256) (j : Fin 512) : ((cfg0.win 3).blk t).view.emb (ix2 i j) = ix2 i (col t j) := by
  obtain ⟨e0, e1⟩ := idx3 t
  funext a; apply Fin.ext
  match a with
  | ⟨0, _⟩ => show win0_3.index t (0 : Fin 2) * 256 + 1 * i.val = i.val; omega
  | ⟨1, _⟩ => show win0_3.index t (1 : Fin 2) * 512 + 1 * j.val = 512 * t.val + j.val; omega

/-- Cutting the point's block out of `X` reads it there, every block being whole. -/
theorem cut_eq (t : Fin cfg0.N) (X : Vec Ideal S256x512 .bf16) : (cfg0.win 3).cut (grid0.coords t) X = X := rfl

/-- Reading an array through the point's block. -/
theorem read_apply (t : Fin cfg0.N) (X : Vec Ideal S256x35840 .bf16) (i : Fin 256) (j : Fin 512) :
    ((cfg0.win 3).blk t).view.read (Elt Ideal) X (ix2 i j) = X (ix2 i (col t j)) := congrArg X (emb3 t i j)

/-- What a point writes back is its block of `result` of the arrays. -/
theorem flushed_eq (c : Dev nD) (t : Fin cfg0.N) :
    (dats m 0 c).flushed 3 t = ((cfg0.win 3).blk t).view.read (Elt Ideal) (result (V m c main_v0) (V m c main_arg1) (V m c main_arg2)) := by
  show (cfg0.win 3).cut (grid0.coords t) ((dats m 0 c).after 3 t) = _
  rw [after0_3, cut_eq]
  funext y
  obtain ⟨i, j, rfl⟩ : ∃ (i : Fin 256) (j : Fin 512), y = ix2 i j := ⟨y 0, y 1, eq_ix2 y⟩
  refine (out_apply _ _ _ i j).trans ?_
  refine Eq.trans ?_ (read_apply t _ i j).symm
  simp only [block0, block1, block2]
  rfl

/-- Every index of the result is in some point's block. -/
theorem covered (i : S256x35840.Idx) : ∃ t : Fin cfg0.N, (cfg0.win 3).flush t = true ∧ i ∈ ((cfg0.win 3).blk t).view.set := by
  have h1 : (i 1).val < 35840 := idx2_lt1 i
  let t : Fin cfg0.N := ⟨(i 1).val / 512, by rw [show cfg0.N = 70 from N_0]; omega⟩
  have e : i = ix2 (i 0) (col t (⟨(i 1).val % 512, by omega⟩ : Fin 512)) := by
    funext a
    match a with
    | ⟨0, _⟩ => rfl
    | ⟨1, _⟩ => apply Fin.ext; show (i 1).val = 512 * ((i 1).val / 512) + (i 1).val % 512; omega
  refine ⟨t, flush0_3 t, ?_⟩
  rw [e]
  exact emb3 t _ _ ▸ ((cfg0.win 3).blk t).view.emb_mem_set _

/-- The array the call fills, after the last point. -/
theorem final (c : Dev nD) : (dats m 0 c).arrAt 3 cfg0.N = result (V m c main_v0) (V m c main_arg1) (V m c main_arg2) :=
  (dats m 0 c).arrAt_eq_of_cover 3 _ (fun t _ => flushed_eq m c t) covered

/-- The call's first operand is `x` with its axis of extent one dropped. -/
theorem V_main_v0 (c : Dev nD) : V m c main_v0 = shapeCast S256x5120 (m ((c : Thread nD τ).loc main_arg0)) shapeCasts_S256x1x5120_S256x5120 := by
  show StableHlo.after (List.flatten [hostOps0]) (fun b => m (c, b)) (Proc.devRef .tc main_v0) = _
  simp only [List.flatten_cons, List.flatten_nil, List.append_nil]
  after_results
  rfl

/-- The returned array is the one the call fills, with an axis of extent one added. -/
theorem W_main_v2 (c : Dev nD) : Pipeline.afterTail₀ cfgs (dats m) 0 (V0 m) [hostOps1] c main_v2
      = shapeCast S256x1x35840 ((dats m 0 c).arrAt 3 cfg0.N) shapeCasts_S256x35840_S256x1x35840 := by
  have hw := Pipeline.withArrays_arr spec0 launch0.win.arr_inj c (V0 m c) (fun w => (dats m 0 c).arrAt w cfg0.N) 3
  unfold Pipeline.afterTail₀
  after_results
  exact congrArg (fun X => shapeCast S256x1x35840 X shapeCasts_S256x35840_S256x1x35840) hw

/-- The returned array, from the arguments: at an index, the problem's entry. -/
def output (x : Vec Ideal S256x1x5120 .bf16) (w : Vec Ideal S5120x35840 .i8) (d : Vec Ideal S160x35840 .f16) : Vec Ideal S256x1x35840 .bf16 :=
  fun i => entry (fun r => x (ix3 (i 0) (i 1) r)) (fun r => w (ix2 r (i 2))) (fun b => d (ix2 b (i 2)))

theorem output_eq (c : Dev nD) : Pipeline.afterTail₀ cfgs (dats m) 0 (V0 m) [hostOps1] c main_v2
      = output (m ((c : Thread nD τ).loc main_arg0)) (m ((c : Thread nD τ).loc main_arg1)) (m ((c : Thread nD τ).loc main_arg2)) := by
  rw [W_main_v2, final, V_main_v0, V_main_arg1, V_main_arg2]
  funext y
  obtain ⟨i, z, j, rfl⟩ : ∃ (i : Fin 256) (z : Fin 1) (j : Fin 35840), y = ix3 i z j := ⟨y 0, y 1, y 2, eq_ix3 y⟩
  have hz : z.val = 0 := by omega
  refine (shapeCast_apply _ _ _ (ix2 i j) (by
    rw [Shape.rowMajor_val_three, Shape.rowMajor_val_two]
    show i.val * 35840 + j.val = (i.val * 1 + z.val) * 35840 + j.val; omega)).trans ?_
  unfold result output
  refine congrArg (fun f => entry f _ _) (funext fun r => ?_)
  exact shapeCast_apply _ _ _ (ix3 i z r) (by
    rw [Shape.rowMajor_val_three, Shape.rowMajor_val_two]
    show (i.val * 1 + z.val) * 5120 + r.val = i.val * 5120 + r.val; omega)

/-- The kernel's run, read: the returned array at `output` of the arguments, the arguments unchanged. -/
theorem run : θ_run defs (onTc (τ := τ) (main (F := Ideal))) ⟨m, fun _ => 0, ρ⟩ fun r => ∀ c : Dev nD,
      r.2.mem ((c : Thread nD τ).loc main_v2) = output (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v2 (Pipeline.mem_restRefs_of main_v2 (by decide) (by decide))).trans (output_eq m c), h.2 c⟩)
    (θ_run_and (run_main m ρ) (unchanged m ρ))

end Cert.KernelIdeal.Read

end
-- ==== Proof.ReferenceValue.lean ====
/- The reference's result over the extended reals, at an index: the dequantized weight read through its reshapes, and
   the contraction as one sum over the 5120 rows. -/
module

public import proofs.«01_k».proof.Proof.Gen.ReferenceIdeal.Value
public import proofs.«01_k».proof.Proof.Linear
public import Idealize.ShloMosaic.Lib.Pointwise.Contract

@[expose] public section

noncomputable section

namespace Cert.ReferenceIdeal.Read

open Idealize.ShloMosaic hiding ix2 ix3
open Idealize.ShloMosaic.ValueIdx Cert.ReferenceIdeal Cert.ReferenceIdeal.Gen Cert.Linear
open scoped BigOperators

/-- The reference's dequantized weight: the codes in blocks of 32 rows, each block times its row of scales, the blocks
    joined again. -/
def weight (w : Vec Ideal S5120x35840 .i8) (d : Vec Ideal S160x35840 .f16) : FVec Ideal S5120x35840 .bf16 :=
  shapeCast S5120x35840 (truncf .bf16 (mulf (shapeCast S160x32x35840 (sitofp .f32 w : FVec Ideal S5120x35840 .f32) shapeCasts_S5120x35840_S160x32x35840)
    (broadcastTo S160x32x35840 (shapeCast S160x1x35840 (extf .f32 (d : FVec Ideal S160x35840 .f16) bitsLt_f16_f32) shapeCasts_S160x35840_S160x1x35840)
      broadcasts_S160x1x35840_S160x32x35840)) bitsLt_bf16_f32 : FVec Ideal S160x32x35840 .bf16) shapeCasts_S160x32x35840_S5120x35840

/-- Row `k` of it is the row's codes times the scales of the row's block. -/
theorem weight_apply (w : Vec Ideal S5120x35840 .i8) (d : Vec Ideal S160x35840 .f16) (k : Fin 5120) (j : Fin 35840) :
    weight w d (ix2 k j) = (((w (ix2 k j)).toInt : ℝ) : EReal) * d (ix2 (⟨k.val / 32, by omega⟩ : Fin 160) j) := by
  unfold weight
  rw [shapeCast_apply _ _ _ (ix3 (⟨k.val / 32, by omega⟩ : Fin 160) (⟨k.val % 32, by omega⟩ : Fin 32) j) (by
      rw [Shape.rowMajor_val_three, Shape.rowMajor_val_two]
      show (k.val / 32 * 32 + k.val % 32) * 35840 + j.val = k.val * 35840 + j.val
      rw [Nat.div_add_mod']),
    truncf_apply, mulf_apply,
    shapeCast_apply _ _ _ (ix2 k j) (by
      rw [Shape.rowMajor_val_three, Shape.rowMajor_val_two]
      show k.val * 35840 + j.val = (k.val / 32 * 32 + k.val % 32) * 35840 + j.val
      rw [Nat.div_add_mod']),
    broadcastTo_apply _ _ _ (ix3 (⟨k.val / 32, by omega⟩ : Fin 160) (0 : Fin 1) j) (fun a => by
      match a with
      | ⟨0, _⟩ => rfl
      | ⟨1, _⟩ => rfl
      | ⟨2, _⟩ => rfl),
    shapeCast_apply _ _ _ (ix2 (⟨k.val / 32, by omega⟩ : Fin 160) j) (by
      rw [Shape.rowMajor_val_three, Shape.rowMajor_val_two]
      show k.val / 32 * 35840 + j.val = (k.val / 32 * 1 + 0) * 35840 + j.val
      omega)]
  rfl

/-- The reference's result is `x` times that weight. -/
theorem value_eq (x : Vec Ideal S256x1x5120 .bf16) (w : Vec Ideal S5120x35840 .i8) (d : Vec Ideal S160x35840 .f16) :
    Value.G3 (F := Ideal) x w d = truncf .bf16 (matmul (F := Ideal) (φ₁ := .bf16) (φ₂ := .bf16) dot_S256x1x5120_S5120x35840_S256x1x35840_2_0_01_1_n_n none x (weight w d)
      (constant S256x1x35840 .f32 0x00000000#32)) bitsLt_bf16_f32 := rfl

/-- An entry of the reference's result is the problem's entry of the arguments. -/
theorem value_apply (x : Vec Ideal S256x1x5120 .bf16) (w : Vec Ideal S5120x35840 .i8) (d : Vec Ideal S160x35840 .f16)
    (i : Fin 256) (z : Fin 1) (j : Fin 35840) :
    Value.G3 (F := Ideal) x w d (ix3 i z j) = entry (fun r => x (ix3 i z r)) (fun r => w (ix2 r j)) (fun b => d (ix2 b j)) := by
  rw [entry_eq, value_eq, truncf_apply]
  refine (Ideal.matmul_apply₁_of dot_S256x1x5120_S5120x35840_S256x1x35840_2_0_01_1_n_n rfl rfl x (weight w d) _ (ix3 i z j)
      (fun k : Fin 5120 => ix3 i z k) (fun k : Fin 5120 => ix2 k j)
      (fun k => funext fun a => by match a with | ⟨0, _⟩ => rfl | ⟨1, _⟩ => rfl | ⟨2, _⟩ => rfl)
      (fun k => funext fun a => by match a with | ⟨0, _⟩ => rfl | ⟨1, _⟩ => rfl)).trans ?_
  rw [constant_apply, Ideal.ofBits_zero_f32, zero_add]
  exact Finset.sum_congr rfl fun k _ => congrArg (_ * ·) (weight_apply w d k j)

end Cert.ReferenceIdeal.Read

end
-- ==== Proof.lean ====
/- The five claims about the kernel and its reference, assembled. The frames are the generated ones; over the extended
   reals the kernel's returned array (Proof/KernelValue.lean) and the reference's (Proof/ReferenceValue.lean) are both the
   problem's entries (Proof/Linear.lean) at every index. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic hiding ix2 ix3
open Idealize.ShloMosaic.ValueIdx Idealize.SL.Sem

/-- The reference's result is the kernel's, index by index. -/
theorem value_eq (x : Vec Ideal Cert.KernelIdeal.S256x1x5120 .bf16) (w : Vec Ideal Cert.KernelIdeal.S5120x35840 .i8) (d : Vec Ideal Cert.KernelIdeal.S160x35840 .f16) :
    Cert.ReferenceIdeal.Value.G3 (F := Ideal) x w d = Cert.KernelIdeal.Read.output x w d := by
  funext y
  obtain ⟨i, z, j, rfl⟩ : ∃ (i : Fin 256) (z : Fin 1) (j : Fin 35840), y = ix3 i z j := ⟨y 0, y 1, y 2, ValueIdx.eq_ix3 y⟩
  exact Cert.ReferenceIdeal.Read.value_apply x w d i z j

/-- Over the extended reals the kernel and the reference return the same array. -/
theorem algebraic : Cert.algebraic_KernelIdeal_ReferenceIdeal := by
  intro m g m' g' _ hargs
  refine ⟨fun c => _, Cert.KernelIdeal.Read.run m g, ?_⟩
  refine (θ_run Cert.ReferenceIdeal.defs _ _).mono (fun r h c => ?_) (Cert.ReferenceIdeal.Value.run m' g')
  obtain ⟨hv, h0, h1, h2⟩ := h c
  refine ⟨hv.trans ?_, h0, h1, h2⟩
  rw [(hargs c).1, (hargs c).2.1, (hargs c).2.2]
  exact value_eq _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
